-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.sign_bit.Statement Cert.KernelIdeal.S2048x1 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536 : Shape := ⟨1, ![65536]⟩
abbrev S32x2048x1 : Shape := ⟨3, ![32, 2048, 1]⟩
abbrev S32x2048x601 : Shape := ⟨3, ![32, 2048, 601]⟩
abbrev S1x2048x1 : Shape := ⟨3, ![1, 2048, 1]⟩
abbrev S1x2048x601 : Shape := ⟨3, ![1, 2048, 601]⟩
abbrev S2048x1 : Shape := ⟨2, ![2048, 1]⟩
abbrev S2048x601 : Shape := ⟨2, ![2048, 601]⟩
abbrev S65536x601 : Shape := ⟨2, ![65536, 601]⟩

abbrev nBuf : Space → Nat
  | .hbm => 6
  | .vmem => 6
  | .smem => 0
  | _ => 0

abbrev bufTy : (tb : Table) → Fin (tcTables nBuf tb) → BufTy
  | .hbm, ⟨0, _⟩ => ⟨S65536, .f32⟩
  | .hbm, ⟨1, _⟩ => ⟨S32x2048x1, .f32⟩
  | .hbm, ⟨2, _⟩ => ⟨S32x2048x1, .f32⟩
  | .hbm, ⟨3, _⟩ => ⟨S32x2048x601, .f32⟩
  | .hbm, ⟨4, _⟩ => ⟨S65536, .f32⟩
  | .hbm, ⟨5, _⟩ => ⟨S65536x601, .f32⟩
  | .local _ .vmem, ⟨0, _⟩ => ⟨S1x2048x1, .f32⟩
  | .local _ .vmem, ⟨1, _⟩ => ⟨S1x2048x1, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x601, .f32⟩
  | .local _ .vmem, ⟨5, _⟩ => ⟨S1x2048x601, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x601 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F]
-- ==== ReferenceIdeal.lean ====
abbrev S65536 : Shape := ⟨1, ![65536]⟩
abbrev S_ : Shape := ⟨0, ![]⟩
abbrev S39387136 : Shape := ⟨1, ![39387136]⟩
abbrev S65536x1 : Shape := ⟨2, ![65536, 1]⟩
abbrev S65536x601 : Shape := ⟨2, ![65536, 601]⟩

abbrev nBuf : Space → Nat
  | .hbm => 68
  | .vmem => 0
  | .smem => 0
  | _ => 0

abbrev bufTy : (tb : Table) → Fin (tcTables nBuf tb) → BufTy
  | .hbm, ⟨0, _⟩ => ⟨S65536, .f32⟩
  | .hbm, ⟨1, _⟩ => ⟨S65536, .f32⟩
  | .hbm, ⟨2, _⟩ => ⟨S65536, .f32⟩
  | .hbm, ⟨3, _⟩ => ⟨S_, .f32⟩
  | .hbm, ⟨4, _⟩ => ⟨S65536, .f32⟩
  | .hbm, ⟨5, _⟩ => ⟨S65536, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S65536, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536, .f32⟩
  | .hbm, ⟨24, _⟩ => ⟨S65536, .f32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S65536, .i32⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S_, .f32⟩
  | .hbm, ⟨43, _⟩ => ⟨S39387136, .f32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S39387136, .f32⟩
  | .hbm, ⟨54, _⟩ => ⟨S65536, .i32⟩
  | .hbm, ⟨55, _⟩ => ⟨S_, .f32⟩
  | .hbm, ⟨56, _⟩ => ⟨S65536, .f32⟩
  | .hbm, ⟨57, _⟩ => ⟨S65536, .f32⟩
  | .hbm, ⟨58, _⟩ => ⟨S_, .i32⟩
  | .hbm, ⟨59, _⟩ => ⟨S65536, .i32⟩
  | .hbm, ⟨60, _⟩ => ⟨S65536, .i1⟩
  | .hbm, ⟨61, _⟩ => ⟨S_, .i32⟩
  | .hbm, ⟨62, _⟩ => ⟨S65536, .i32⟩
  | .hbm, ⟨63, _⟩ => ⟨S65536, .i32⟩
  | .hbm, ⟨64, _⟩ => ⟨S65536, .i32⟩
  | .hbm, ⟨65, _⟩ => ⟨S65536x1, .i32⟩
  | .hbm, ⟨66, _⟩ => ⟨S39387136, .f32⟩
  | .hbm, ⟨67, _⟩ => ⟨S65536x601, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_c_9 : Ref sig .tc := ⟨.hbm, 45, rfl⟩
abbrev main_v28 : Ref sig .tc := ⟨.hbm, 46, rfl⟩
abbrev main_v29 : Ref sig .tc := ⟨.hbm, 47, rfl⟩
abbrev main_c_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_c_12 : Ref sig .tc := ⟨.hbm, 58, rfl⟩
abbrev main_v38 : Ref sig .tc := ⟨.hbm, 59, rfl⟩
abbrev main_v39 : Ref sig .tc := ⟨.hbm, 60, rfl⟩
abbrev main_c_13 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Proof.Scalar.lean ====
/- The two-hot encoding of one number: the squashed and clipped value, the two bins it lies between, and what a
   bin receives; and the bounds that make the bins' words name the bins 0 to 600. -/
module

public import Idealize.ShloMosaic.PureOps.Ideal.Laws
public import Idealize.ShloMosaic.Lib.Pointwise
public import Idealize.ShloMosaic.Lib.WordCmp

@[expose] public section

noncomputable section

namespace TwoHot

open Idealize.ShloMosaic

/-- The value a number is encoded as: `sign a · (√(|a| + 1) − 1) + 0.001 · a`, clipped to `[-300, 300]`. -/
def enc (a : EReal) : EReal :=
  min (Ideal.ofBits .f32 0x43960000#32)
    (max (Ideal.ofBits .f32 0xC3960000#32)
      (Ideal.sign a * (Ideal.sqrt (max a (-a) + 1) - 1) + Ideal.ofBits .f32 0x3A83126F#32 * a))

/-- The part of an encoded value above the whole number below it. -/
def frac (e : EReal) : EReal := e - Ideal.liftRound Int.floor e

/-- The bin of the whole number below an encoded value, as the programs compute its word. -/
def lowWord (e : EReal) : BitVec 32 := IntOp.addi 300#32 (Ideal.fptosi 32 (Ideal.liftRound Int.floor e))

/-- The bin after it, kept to 600 at most, as the programs compute its word. -/
def highWord (e : EReal) : BitVec 32 := IntOp.minsi (IntOp.addi (lowWord e) 1#32) 600#32

/-- What bin `j` receives of an encoded value. -/
def cell (e : EReal) (j : ℕ) : EReal :=
  if BitVec.ofNat 32 j = lowWord e then 1 - frac e else if BitVec.ofNat 32 j = highWord e then frac e else 0

theorem ofBits_300 : Ideal.ofBits .f32 0x43960000#32 = ((300 : ℝ) : EReal) := by
  simp [Ideal.ofBits, Ideal.ieee, -EReal.coe_mul, -EReal.coe_neg]
  norm_num

theorem ofBits_neg_300 : Ideal.ofBits .f32 0xC3960000#32 = ((-300 : ℝ) : EReal) := by
  simp [Ideal.ofBits, Ideal.ieee, -EReal.coe_mul, -EReal.coe_neg]
  norm_num

/-- An encoded value is a real number from -300 to 300. -/
theorem enc_real (a : EReal) : ∃ r : ℝ, enc a = (r : EReal) ∧ -300 ≤ r ∧ r ≤ 300 := by
  unfold enc
  rw [ofBits_300, ofBits_neg_300]
  generalize Ideal.sign a * (Ideal.sqrt (max a (-a) + 1) - 1) + Ideal.ofBits .f32 0x3A83126F#32 * a = y
  induction y with
  | bot => exact ⟨-300, by rw [max_eq_left bot_le, min_eq_right (by exact_mod_cast (by norm_num : (-300 : ℝ) ≤ 300))], by norm_num, by norm_num⟩
  | top => exact ⟨300, by rw [max_eq_right le_top, min_eq_left le_top], by norm_num, by norm_num⟩
  | coe y =>
    refine ⟨min 300 (max (-300) y), by rw [← EReal.coe_strictMono.monotone.map_max, ← EReal.coe_strictMono.monotone.map_min], ?_, min_le_left _ _⟩
    exact le_min (by norm_num) (le_max_left _ _)

/-- The bin below an encoded value is one of 0 to 600. -/
theorem lowWord_bin (a : EReal) : ∃ k : ℕ, k ≤ 600 ∧ lowWord (enc a) = BitVec.ofNat 32 k := by
  obtain ⟨r, hr, h0, h1⟩ := enc_real a
  have hf0 : (-300 : ℤ) ≤ ⌊r⌋ := Int.le_floor.2 (by exact_mod_cast h0)
  have hf1 : ⌊r⌋ ≤ (300 : ℤ) := by
    have : (⌊r⌋ : ℝ) ≤ 300 := (Int.floor_le r).trans h1
    exact_mod_cast this
  obtain ⟨k, hk⟩ := Int.eq_ofNat_of_zero_le (a := ⌊r⌋ + 300) (by omega)
  refine ⟨k, by omega, ?_⟩
  have e : Ideal.toIntClamped (-(2 ^ 31 : ℕ)) ((2 ^ 31 : ℕ) - 1) ((⌊r⌋ : ℝ) : EReal) = ⌊r⌋ := by
    rw [Ideal.toIntClamped_coe, Int.floor_intCast, Int.ceil_intCast, ite_self]
    omega
  unfold lowWord
  rw [hr, Ideal.liftRound_coe]
  unfold Ideal.fptosi
  rw [show (32 - 1 : ℕ) = 31 from rfl, e, show ⌊r⌋ = (k : ℤ) - 300 by omega]
  unfold IntOp.addi
  apply BitVec.eq_of_toNat_eq
  simp only [BitVec.toNat_add, BitVec.toNat_ofInt, BitVec.toNat_ofNat]
  omega

/-- Where the bin below is `k`, the bin after it is `k + 1`, or 600 from there on. -/
theorem highWord_bin (e : EReal) (k : ℕ) (hk : k ≤ 600) (h : lowWord e = BitVec.ofNat 32 k) :
    highWord e = BitVec.ofNat 32 (min (k + 1) 600) := by
  unfold highWord
  rw [h]
  unfold IntOp.minsi IntOp.addi
  rcases Nat.lt_or_ge k 600 with hlt | hge
  · rw [show min (k + 1) 600 = k + 1 by omega]
    split
    · apply BitVec.eq_of_toNat_eq; simp
    · next hn =>
      apply BitVec.eq_of_toNat_eq
      simp only [BitVec.slt, BitVec.toInt_eq_toNat_cond, BitVec.toNat_add, BitVec.toNat_ofNat, decide_eq_true_eq] at hn ⊢
      omega
  · obtain rfl : k = 600 := by omega
    decide

end TwoHot
-- ==== Proof.Block.lean ====
/- What one step of the kernel computes from its block of 2048 numbers: their encoded values, and for every number
   a row of 601 bins. -/
module

public import proofs.«01_k».proof.Proof.Scalar
public import proofs.«01_k».proof.Proof.Gen.KernelIdeal.Skeleton
public import Idealize.ShloMosaic.Lib.Pointwise

@[expose] public section

set_option maxRecDepth 16384

noncomputable section

namespace TwoHot

open Idealize.ShloMosaic Cert.KernelIdeal Cert.KernelIdeal.Gen

/-- The bit of a comparison for equality is set where the words are equal. -/
theorem word_eq (x y : BitVec 32) : (BitVec.ofBool (x == y) = 1) = (x = y) := by
  rw [show (1 : BitVec 1) = BitVec.ofBool true from rfl, eq_iff_iff, BitVec.ofBool_eq_iff_eq, beq_iff_eq]

/-- The encoded value of the block's number `r`. -/
theorem enc_block (x : Vec Ideal S1x2048x1 .f32) (r : Fin 2048) (u : Fin 1) :
    k0_pay3 x (ix2 r u) = enc (x (ix3 (0 : Fin 1) r (0 : Fin 1))) := by
  obtain rfl : u = 0 := Subsingleton.elim _ _
  have h := Ideal.jnp_sign_eq_sign_f32 (x (ix3 (0 : Fin 1) r (0 : Fin 1)))
  unfold enc
  rw [← h]
  pointwise [k0_pay3]
  rfl

/-- The first output's block holds the encoded values. -/
theorem pay1_at (x : Vec Ideal S1x2048x1 .f32) (r : Fin 2048) :
    k0_pay1 (k0_pay3 x) (ix3 (0 : Fin 1) r (0 : Fin 1)) = enc (x (ix3 (0 : Fin 1) r (0 : Fin 1))) := by
  rw [← enc_block x r 0]
  pointwise [k0_pay1]

/-- The second output's block holds at `(r, j)` what bin `j` receives of number `r`. -/
theorem pay2_at (x : Vec Ideal S1x2048x1 .f32) (r : Fin 2048) (j : Fin 601) :
    k0_pay2 (k0_pay7 x) (k0_pay8 x) (k0_pay9 x) (Scalar.ofBits .f32 0x00000000#32) (k0_pay10 x) (ix3 (0 : Fin 1) r j)
      = cell (enc (x (ix3 (0 : Fin 1) r (0 : Fin 1)))) j.val := by
  rw [← enc_block x r 0]
  pointwise [k0_pay2, k0_pay7, k0_pay8, k0_pay9, k0_pay10, k0_pay5, k0_pay6, k0_pay4]
  unfold cell frac highWord lowWord
  simp only [Scalar.select, IntOp.cmpi, word_eq]
  rfl

end TwoHot
-- ==== Proof.KernelValue.lean ====
/- The kernel's run: on every device the first result holds at `r` the encoded value of the argument's element `r`, the
   second at `(r, j)` what bin `j` receives of it, and the argument is unchanged. -/
module

public import proofs.«01_k».proof.Proof.Block
public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace TwoHot

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The argument, as launched on device `c`. -/
abbrev arg (c : Dev nD) : FVec Ideal S65536 .f32 := m ((c.tc : Thread nD τ).loc main_arg0)

/-- The grid has 32 steps. -/
theorem step_lt (t : Fin cfg0.N) : t.val < 32 := t.isLt

/-- Step `t` of the grid works on block `t`, in each of the three windows. -/
theorem index_eq : (∀ t : Fin cfg0.N, win0_0.index t = ![t.val, 0, 0]) ∧ (∀ t : Fin cfg0.N, win0_1.index t = ![t.val, 0, 0])
    ∧ (∀ t : Fin cfg0.N, win0_2.index t = ![t.val, 0, 0]) := by
  decide +kernel

/-- The array the first window reads is the argument in 32 blocks of 2048. -/
theorem entry_eq (c : Dev nD) : V m c main_v0 = shapeCast S32x2048x1 (arg m c) shapeCasts_S65536_S32x2048x1 := by
  entry_read
  rfl

/-- Step `t`'s block of the array the first window reads is its block `t`. -/
theorem emb0 (t : Fin cfg0.N) (r : Fin 2048) :
    ((cfg0.win 0).blk t).view.emb (ix3 (0 : Fin 1) r (0 : Fin 1)) = ix3 (⟨t.val, step_lt t⟩ : Fin 32) r (0 : Fin 1) := by
  funext a
  have hi := congrFun (index_eq.1 t) a
  apply Fin.ext
  show win0_0.index t a * win0_0.size a + 1 * _ = _
  rw [hi]
  fin_cases a
  · show t.val * 1 + 1 * 0 = t.val; omega
  · show 0 * 2048 + 1 * r.val = r.val; omega
  · rfl

/-- The same for the first output's array. -/
theorem emb1 (t : Fin cfg0.N) (r : Fin 2048) :
    ((cfg0.win 1).blk t).view.emb (ix3 (0 : Fin 1) r (0 : Fin 1)) = ix3 (⟨t.val, step_lt t⟩ : Fin 32) r (0 : Fin 1) := by
  funext a
  have hi := congrFun (index_eq.2.1 t) a
  apply Fin.ext
  show win0_1.index t a * win0_1.size a + 1 * _ = _
  rw [hi]
  fin_cases a
  · show t.val * 1 + 1 * 0 = t.val; omega
  · show 0 * 2048 + 1 * r.val = r.val; omega
  · rfl

/-- The same for the second output's array. -/
theorem emb2 (t : Fin cfg0.N) (r : Fin 2048) (j : Fin 601) :
    ((cfg0.win 2).blk t).view.emb (ix3 (0 : Fin 1) r j) = ix3 (⟨t.val, step_lt t⟩ : Fin 32) r j := by
  funext a
  have hi := congrFun (index_eq.2.2 t) a
  apply Fin.ext
  show win0_2.index t a * win0_2.size a + 1 * _ = _
  rw [hi]
  fin_cases a
  · show t.val * 1 + 1 * 0 = t.val; omega
  · show 0 * 2048 + 1 * r.val = r.val; omega
  · show 0 * 601 + 1 * j.val = j.val; omega

/-- Number `r` of step `t`'s block is the argument's element `t · 2048 + r`. -/
theorem iblk_at (c : Dev nD) (t : Fin cfg0.N) (r : Fin 2048) :
    iblk m c 0 t (ix3 (0 : Fin 1) r (0 : Fin 1))
      = arg m c (ix1 ⟨t.val * 2048 + r.val, by have := step_lt t; have := r.isLt; omega⟩) := by
  show V m c main_v0 (((cfg0.win 0).blk t).view.emb (ix3 (0 : Fin 1) r (0 : Fin 1))) = _
  rw [emb0, entry_eq]
  pointwise

/-- The argument's element that the arrays hold at number `r` of block `b`. -/
def elem (x : FVec Ideal S65536 .f32) (b : Fin 32) (r : Fin 2048) : EReal :=
  x (ix1 ⟨b.val * 2048 + r.val, by have := b.isLt; have := r.isLt; omega⟩)

/-- What the first output's array is to hold: the encoded values, by blocks. -/
def encArr (x : FVec Ideal S65536 .f32) : S32x2048x1.Idx → EReal := fun i => enc (elem x (i 0) (i 1))

/-- What the second output's array is to hold: every number's row of bins, by blocks. -/
def binsArr (x : FVec Ideal S65536 .f32) : S32x2048x601.Idx → EReal := fun i => cell (enc (elem x (i 0) (i 1))) (i 2).val

/-- Step `t` writes the first array's block `t`. -/
theorem step1 (c : Dev nD) (t : Fin cfg0.N) (y : S1x2048x1.Idx) :
    k0_pay1 (k0_pay3 (iblk m c 0 t)) y = encArr (arg m c) (((cfg0.win 1).blk t).view.emb y) := by
  obtain ⟨r, rfl⟩ : ∃ r : Fin 2048, y = ix3 (0 : Fin 1) r (0 : Fin 1) := by
    refine ⟨y 1, funext fun a => ?_⟩
    fin_cases a
    · exact Subsingleton.elim (α := Fin 1) _ _
    · rfl
    · exact Subsingleton.elim (α := Fin 1) _ _
  rw [emb1]
  refine (pay1_at _ r).trans ?_
  rw [iblk_at]
  rfl

/-- Step `t` writes the second array's block `t`. -/
theorem step2 (c : Dev nD) (t : Fin cfg0.N) (y : S1x2048x601.Idx) :
    k0_pay2 (k0_pay7 (iblk m c 0 t)) (k0_pay8 (iblk m c 0 t)) (k0_pay9 (iblk m c 0 t)) (Scalar.ofBits .f32 0x00000000#32)
        (k0_pay10 (iblk m c 0 t)) y
      = binsArr (arg m c) (((cfg0.win 2).blk t).view.emb y) := by
  obtain ⟨r, j, rfl⟩ : ∃ (r : Fin 2048) (j : Fin 601), y = ix3 (0 : Fin 1) r j := by
    refine ⟨y 1, y 2, funext fun a => ?_⟩
    fin_cases a
    · exact Subsingleton.elim (α := Fin 1) _ _
    · rfl
    · rfl
  rw [emb2]
  refine (pay2_at _ r j).trans ?_
  rw [iblk_at]
  rfl

/-- The first output's array after the run. -/
theorem arr1_eq (c : Dev nD) : (dats m 0 c).arrAt 1 cfg0.N = encArr (arg m c) := by
  refine (dats m 0 c).arrAt_eq_of_covers 1 _ (by decide +kernel) fun t hf y => ?_
  blk_simp
  rw [after0_1]
  frame_out
  exact step1 m c t y

/-- The second output's array after the run. -/
theorem arr2_eq (c : Dev nD) : (dats m 0 c).arrAt 2 cfg0.N = binsArr (arg m c) := by
  refine (dats m 0 c).arrAt_eq_of_covers 2 _ (by decide +kernel) fun t hf y => ?_
  blk_simp
  rw [after0_2]
  frame_out
  exact step2 m c t y

/-- The first result is the first output's array as one vector. -/
theorem tail0 (c : Dev nD) : Pipeline.afterTail₀ cfgs (dats m) 0 (V0 m) [hostOps1] c main_v2
    = shapeCast S65536 ((dats m 0 c).arrAt 1 cfg0.N : Vec Ideal S32x2048x1 .f32) shapeCasts_S32x2048x1_S65536 := by
  unfold Pipeline.afterTail₀
  rw [← Pipeline.withArrays_arr (cfgs 0).spec (by decide +kernel) c (V0 m c) (fun w => (dats m 0 c).arrAt w (cfgs 0).N) 1]
  simp only [List.flatten_cons, List.flatten_nil, List.append_nil]
  entry_read
  rfl

/-- The second result is the second output's array as rows of 601. -/
theorem tail1 (c : Dev nD) : Pipeline.afterTail₀ cfgs (dats m) 0 (V0 m) [hostOps1] c main_v3
    = shapeCast S65536x601 ((dats m 0 c).arrAt 2 cfg0.N : Vec Ideal S32x2048x601 .f32) shapeCasts_S32x2048x601_S65536x601 := by
  unfold Pipeline.afterTail₀
  rw [← Pipeline.withArrays_arr (cfgs 0).spec (by decide +kernel) c (V0 m c) (fun w => (dats m 0 c).arrAt w (cfgs 0).N) 2]
  simp only [List.flatten_cons, List.flatten_nil, List.append_nil]
  entry_read
  rfl

/-- Block `i / 2048`'s number `i % 2048` is element `i`. -/
theorem elem_div_mod (x : FVec Ideal S65536 .f32) (i : Fin 65536) (h : i.val / 2048 < 32) (h' : i.val % 2048 < 2048) :
    elem x ⟨i.val / 2048, h⟩ ⟨i.val % 2048, h'⟩ = x (ix1 i) := by
  unfold elem
  congr 2
  exact Fin.ext (Nat.div_add_mod' _ _)

/-- The blocks of encoded values as one vector. -/
theorem encArr_flat (x : FVec Ideal S65536 .f32) (i : Fin 65536) :
    shapeCast S65536 (encArr x) shapeCasts_S32x2048x1_S65536 (ix1 i) = enc (x (ix1 i)) := by
  rw [← elem_div_mod x i (by have := i.isLt; omega) (Nat.mod_lt _ (by decide))]
  generalize hy : encArr x = y
  pointwise
  rw [← hy]
  rfl

/-- The blocks of rows as rows of one matrix. -/
theorem binsArr_flat (x : FVec Ideal S65536 .f32) (i : Fin 65536) (j : Fin 601) :
    shapeCast S65536x601 (binsArr x) shapeCasts_S32x2048x601_S65536x601 (ix2 i j) = cell (enc (x (ix1 i))) j.val := by
  rw [← elem_div_mod x i (by have := i.isLt; omega) (Nat.mod_lt _ (by decide))]
  generalize hy : binsArr x = y
  pointwise
  rw [← hy]
  rfl

/-- The kernel's run, at one element of each result. -/
theorem kernel_run : θ_run defs (onTc (τ := τ) (main (F := Ideal))) ⟨m, fun _ => 0, ρ⟩ fun r => ∀ c : Dev nD,
    (∀ i : Fin 65536, (r.2.mem ((c.tc : Thread nD τ).loc main_v2) : Vec Ideal S65536 .f32) (ix1 i) = enc (arg m c (ix1 i)))
    ∧ (∀ (i : Fin 65536) (j : Fin 601), (r.2.mem ((c.tc : Thread nD τ).loc main_v3) : Vec Ideal S65536x601 .f32) (ix2 i j)
        = cell (enc (arg m c (ix1 i))) j.val)
    ∧ r.2.mem ((c.tc : Thread nD τ).loc main_arg0) = m ((c.tc : Thread nD τ).loc main_arg0) := by
  refine (θ_run defs _ _).mono (fun r h c => ⟨fun i => ?_, fun i j => ?_, ?_⟩) (run_main m ρ)
  · refine (congrFun (((h c).2 main_v2 (Pipeline.mem_restRefs_of main_v2 (by decide) (by decide))).trans (tail0 m c)) (ix1 i)).trans ?_
    rw [arr1_eq]
    exact encArr_flat (arg m c) i
  · refine (congrFun (((h c).2 main_v3 (Pipeline.mem_restRefs_of main_v3 (by decide) (by decide))).trans (tail1 m c)) (ix2 i j)).trans ?_
    rw [arr2_eq]
    exact binsArr_flat (arg m c) i j
  · exact ((h c).2 main_arg0 (Pipeline.mem_restRefs_of main_arg0 (by decide) (by decide))).trans (W_main_arg0 m (dats m) c)

end TwoHot
-- ==== Proof.Scatter.lean ====
/- The reference's scatters, read at one element. Update `i` of 65536 goes into a flat array of 65536 · 601 elements at
   `i · 601 + g i`, where `g i` is a bin of 0 to 600: so element `r · 601 + j` has one writer, update `r`, if `g r` is
   `j`, and no writer otherwise. -/
module

public import proofs.«01_k».proof.Proof.Gen.ReferenceIdeal
public import Idealize.ShloMosaic.Lib.Routing.OpsSet
public import Idealize.ShloMosaic.Lib.Routing.OpsPair
public import Idealize.ShloMosaic.Lib.StableHlo.Predicate

@[expose] public section

noncomputable section

namespace TwoHot

open Idealize.ShloMosaic Idealize.ShloMosaic.ValueIdx Idealize.ShloMosaic.Routing Cert.ReferenceIdeal Cert.ReferenceIdeal.Gen

/-- The scatters' dimension numbers: one index word per update, for the operand's one axis. -/
abbrev dims : ScatterDims S39387136 S65536x1 S65536 := scatter_S39387136_S65536x1_S65536_n_0_0_1

/-- Update `i` lands at element `p` exactly when its index word, read signed, is `p`. -/
theorem lands (idx : IVec S65536x1 32) (i : Fin 65536) (p : Fin 39387136) :
    dims.resultIdx? (ix1 i) idx = some (ix1 p) ↔ (idx (ix2 i (0 : Fin 1))).toInt = (p.val : Int) := by
  have hw : dims.window (ix1 i) 0 = 0 := rfl
  have hs : dims.start (ix1 i) idx 0 = (idx (ix2 i (0 : Fin 1))).toInt := by
    refine congrArg (fun q => (idx q).toInt) (funext fun a => ?_)
    fin_cases a <;> rfl
  rw [resultIdx?_ix1, hw, hs]
  simp

/-- Every index of a vector is `ix1` of its coordinate. -/
theorem exists_ix1 (k : S65536.Idx) : ∃ i : Fin 65536, k = ix1 i :=
  ⟨k 0, funext fun a => by fin_cases a; rfl⟩

/-- A scatter whose update `i` is directed to `i · 601 + g i`, with `g i ≤ 600`, holds at element `r · 601 + j` update
    `r` if `g r` is `j`, and the operand's element otherwise. -/
theorem scatter_row {α : Type} (x0 : S39387136.Idx → α) (idx : IVec S65536x1 32) (upd : S65536.Idx → α) (g : Fin 65536 → ℕ)
    (hg : ∀ i, g i ≤ 600) (hidx : ∀ i, idx (ix2 i (0 : Fin 1)) = BitVec.ofNat 32 (i.val * 601 + g i))
    (r : Fin 65536) (j : Fin 601) (p : Fin 39387136) (hp : p.val = r.val * 601 + j.val) :
    Host.scatter dims (fun _ b => b) x0 idx upd (ix1 p) = if g r = j.val then upd (ix1 r) else x0 (ix1 p) := by
  have hl : ∀ i, dims.resultIdx? (ix1 i) idx = some (ix1 p) ↔ i.val * 601 + g i = p.val := fun i => by
    have := hg i
    rw [lands, hidx, StableHlo.Predicate.toInt_ofNat_small _ (by omega)]
    omega
  have hj := j.isLt
  split
  · next h =>
    refine scatter_set_hit dims x0 idx upd (ix1 p) _ (fun k hk => ?_) (ix1 r) ((hl r).2 (by omega))
    obtain ⟨i, rfl⟩ := exists_ix1 k
    have h1 := (hl i).1 hk
    have := hg i
    rw [show i = r from Fin.ext (by omega)]
  · next h =>
    refine scatter_set_miss dims x0 idx upd (ix1 p) fun k hk => ?_
    obtain ⟨i, rfl⟩ := exists_ix1 k
    have h1 := (hl i).1 hk
    have := hg i
    obtain rfl : i = r := Fin.ext (by omega)
    omega

end TwoHot
-- ==== Proof.RefValue.lean ====
/- What the reference computes, at one element: its first result at `r` is the encoded value of the argument's element
   `r`, its second at `(r, j)` what bin `j` receives of that value. -/
module

public import proofs.«01_k».proof.Proof.Scalar
public import proofs.«01_k».proof.Proof.Scatter
public import proofs.«01_k».proof.Proof.Gen.ReferenceIdeal.Run
public import Idealize.ShloMosaic.Lib.Pointwise
public import Idealize.ShloMosaic.Lib.Pointwise.IndexBridge

@[expose] public section

set_option maxRecDepth 16384

noncomputable section

namespace TwoHot

open Idealize.ShloMosaic Cert.ReferenceIdeal Cert.ReferenceIdeal.Gen Cert.ReferenceIdeal.Value

/-- The reference's first result of an argument `x`: every element squashed and clipped. -/
def refEnc (x : FVec Ideal S65536 .f32) : FVec Ideal S65536 .f32 :=
  minimumf (broadcastInDim S65536 ![] bcast_S_S65536 (id (constant S_ .f32 0x43960000#32)))
    (maximumf (broadcastInDim S65536 ![] bcast_S_S65536 (id (constant S_ .f32 0xC3960000#32)))
      (addf
        (mulf (Host.sign x)
          (subf (Host.sqrt (addf (Host.absf x) (broadcastInDim S65536 ![] bcast_S_S65536 (constant S_ .f32 0x3F800000#32))))
            (broadcastInDim S65536 ![] bcast_S_S65536 (constant S_ .f32 0x3F800000#32))))
        (mulf (broadcastInDim S65536 ![] bcast_S_S65536 (constant S_ .f32 0x3A83126F#32)) x)))

/-- The bins below, as words of the whole vector. -/
def refLow (e : FVec Ideal S65536 .f32) : IVec S65536 32 :=
  addi (broadcastInDim S65536 ![] bcast_S_S65536 (constantI S_ 32 300#32)) (fptosi 32 (Host.floor e))

/-- The bins after them. -/
def refHigh (e : FVec Ideal S65536 .f32) : IVec S65536 32 :=
  minsi (addi (refLow e) (broadcastInDim S65536 ![] bcast_S_S65536 (constantI S_ 32 1#32)))
    (broadcastInDim S65536 ![] bcast_S_S65536 (constantI S_ 32 600#32))

/-- The flat positions of the rows' bins `w`. -/
def refPos (w : IVec S65536 32) : IVec S65536 32 :=
  addi (muli (iotaInDim S65536 32 0) (broadcastInDim S65536 ![] bcast_S_S65536 (constantI S_ 32 601#32))) w

/-- A scatter's index table: the flat positions, a negative one counted from the end. -/
def refTable (p : IVec S65536 32) : IVec S65536x1 32 :=
  broadcastInDim S65536x1 ![0] bcast_S65536_S65536x1_0
    (select (cmpi .slt p (broadcastInDim S65536 ![] bcast_S_S65536 (constantI S_ 32 0#32)))
      (addi p (broadcastInDim S65536 ![] bcast_S_S65536 (constantI S_ 32 39387136#32))) p)

theorem refEnc_at (x : FVec Ideal S65536 .f32) (r : Fin 65536) : refEnc x (ix1 r) = enc (x (ix1 r)) := by
  pointwise [refEnc, enc]
  rfl

theorem refLow_at (e : FVec Ideal S65536 .f32) (r : Fin 65536) : refLow e (ix1 r) = lowWord (e (ix1 r)) := by
  pointwise [refLow, lowWord]
  rfl

theorem refHigh_at (e : FVec Ideal S65536 .f32) (r : Fin 65536) : refHigh e (ix1 r) = highWord (e (ix1 r)) := by
  pointwise [refHigh, highWord, refLow, lowWord]
  rfl

/-- Where row `r`'s bin is `b`, at most 600, the table holds `r · 601 + b`: no position is negative. -/
theorem refTable_at (w : IVec S65536 32) (r : Fin 65536) (b : ℕ) (hb : b ≤ 600) (hw : w (ix1 r) = BitVec.ofNat 32 b) :
    refTable (refPos w) (ix2 r (0 : Fin 1)) = BitVec.ofNat 32 (r.val * 601 + b) := by
  have hp : refPos w (ix1 r) = BitVec.ofNat 32 (r.val * 601 + b) := by
    pointwise [refPos]
    rw [hw]
    unfold IntOp.addi IntOp.muli
    apply BitVec.eq_of_toNat_eq
    simp
  pointwise [refTable]
  rw [hp]
  have hr := r.isLt
  exact Routing.wrap_of_lt _ _ (by rw [BitVec.toNat_ofNat, Nat.mod_eq_of_lt (by omega)]; omega)

/-- The flat array seen as rows of 601: element `(r, j)` is the flat array's element `r · 601 + j`. -/
theorem rows_at {α : Type} (y : S39387136.Idx → α) (r : Fin 65536) (j : Fin 601) (h : r.val * 601 + j.val < 39387136) :
    shapeCast S65536x601 y shapeCasts_S39387136_S65536x601 (ix2 r j) = y (ix1 ⟨r.val * 601 + j.val, h⟩) := by
  pointwise

/-- The reference's second result at `(r, j)`. -/
theorem res_at (m : (ℓ : Loc nD τ sig) → Buf (Elt Ideal) ℓ) (c : Dev nD) (r : Fin 65536) (j : Fin 601) :
    res_main_v45 m c (ix2 r j) = cell (enc (m ((c.tc : Thread nD τ).loc main_arg0) (ix1 r))) j.val := by
  set x : FVec Ideal S65536 .f32 := m ((c.tc : Thread nD τ).loc main_arg0) with hx
  have hbin : ∀ i : Fin 65536, ∃ k : ℕ, k ≤ 600 ∧ lowWord (enc (x (ix1 i))) = BitVec.ofNat 32 k := fun i => lowWord_bin _
  choose g hg hlow using hbin
  have hhigh := fun i : Fin 65536 => highWord_bin _ _ (hg i) (hlow i)
  have hr := r.isLt
  have hj := j.isLt
  have hgr := hg r
  have hz : ∀ p : Fin 39387136, broadcastInDim S39387136 ![] bcast_S_S39387136 (constant (F := Ideal) S_ .f32 0x00000000#32) (ix1 p) = 0 := fun p => by
    pointwise
  have hrem : subf (refEnc x) (Host.floor (refEnc x)) (ix1 r) = frac (enc (x (ix1 r))) := by
    rw [← refEnc_at]
    pointwise [frac]
  have hone : subf (broadcastInDim S65536 ![] bcast_S_S65536 (constant S_ .f32 0x3F800000#32)) (subf (refEnc x) (Host.floor (refEnc x))) (ix1 r)
      = 1 - frac (enc (x (ix1 r))) := by
    rw [← hrem]
    pointwise
  have ht2 : ∀ i : Fin 65536, refTable (refPos (refLow (refEnc x))) (ValueIdx.ix2 i (0 : Fin 1)) = BitVec.ofNat 32 (i.val * 601 + g i) := fun i => by
    rw [← ix2_eq_valueIdx]
    exact refTable_at _ i _ (hg i) (by rw [refLow_at, refEnc_at]; exact hlow i)
  have ht1 : ∀ i : Fin 65536, refTable (refPos (refHigh (refEnc x))) (ValueIdx.ix2 i (0 : Fin 1)) = BitVec.ofNat 32 (i.val * 601 + min (g i + 1) 600) := fun i => by
    rw [← ix2_eq_valueIdx]
    exact refTable_at _ i _ (by omega) (by rw [refHigh_at, refEnc_at]; exact hhigh i)
  have hp : r.val * 601 + j.val < 39387136 := by omega
  have hres : res_main_v45 m c (ix2 r j)
      = Host.scatter dims (fun _ b => b)
          (Host.scatter dims (fun _ b => b) (broadcastInDim S39387136 ![] bcast_S_S39387136 (constant (F := Ideal) S_ .f32 0x00000000#32))
            (refTable (refPos (refHigh (refEnc x)))) (subf (refEnc x) (Host.floor (refEnc x))))
          (refTable (refPos (refLow (refEnc x))))
          (subf (broadcastInDim S65536 ![] bcast_S_S65536 (constant S_ .f32 0x3F800000#32)) (subf (refEnc x) (Host.floor (refEnc x))))
          (ValueIdx.ix1 ⟨r.val * 601 + j.val, hp⟩) := by
    rw [← ix1_eq_valueIdx]
    exact rows_at _ r j hp
  rw [hres, scatter_row _ _ _ g hg ht2 r j _ rfl, scatter_row _ _ _ _ (fun i => by omega) ht1 r j _ rfl]
  simp only [← ix1_eq_valueIdx]
  rw [hz, hrem, hone]
  unfold cell
  rw [hhigh r, hlow r]
  have e : ∀ b : ℕ, b ≤ 600 → (BitVec.ofNat 32 j.val = BitVec.ofNat 32 b ↔ b = j.val) := fun b hb => by
    rw [← BitVec.toNat_inj, BitVec.toNat_ofNat, BitVec.toNat_ofNat]
    omega
  simp only [e _ hgr, e _ (show min (g r + 1) 600 ≤ 600 by omega)]

end TwoHot
-- ==== Proof.Equation.lean ====
/- The two programs' results are equal: both are the encoded values, and the rows of 601 bins, of the argument. -/
module

public import proofs.«01_k».proof.Proof.KernelValue
public import proofs.«01_k».proof.Proof.RefValue

@[expose] public section

set_option maxRecDepth 16384

noncomputable section

namespace TwoHot

open Idealize.ShloMosaic Idealize.SL.Sem

/-- The first result of an argument `x`: the encoded values. -/
def outEnc (x : (⟨1, ![65536]⟩ : Shape).Idx → EReal) : (⟨1, ![65536]⟩ : Shape).Idx → EReal := fun i => enc (x i)

/-- The second result of an argument `x`: for every number a row of 601 bins. -/
def outBins (x : (⟨1, ![65536]⟩ : Shape).Idx → EReal) : (⟨2, ![65536, 601]⟩ : Shape).Idx → EReal := fun i =>
  cell (enc (x (ix1 (i 0 : Fin 65536)))) (i 1).val

/-- A vector of 65536 that is the encoded value at every element is the first result. -/
theorem eq_outEnc (x y : (⟨1, ![65536]⟩ : Shape).Idx → EReal) (h : ∀ i : Fin 65536, y (ix1 i) = enc (x (ix1 i))) : y = outEnc x := by
  funext i
  obtain ⟨k, rfl⟩ : ∃ k : Fin 65536, i = ix1 k := ⟨i 0, funext fun a => by fin_cases a; rfl⟩
  exact h k

/-- A matrix that is at every `(i, j)` what bin `j` receives of number `i` is the second result. -/
theorem eq_outBins (x : (⟨1, ![65536]⟩ : Shape).Idx → EReal) (y : (⟨2, ![65536, 601]⟩ : Shape).Idx → EReal)
    (h : ∀ (i : Fin 65536) (j : Fin 601), y (ix2 i j) = cell (enc (x (ix1 i))) j.val) : y = outBins x := by
  funext i
  obtain ⟨k, j, rfl⟩ : ∃ (k : Fin 65536) (j : Fin 601), i = ix2 k j := ⟨i 0, i 1, funext fun a => by fin_cases a <;> rfl⟩
  exact h k j

section Kernel

open Cert.KernelIdeal

/-- The kernel's run: the first result, the second result, the argument unchanged. -/
theorem kernel_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = outEnc (m ((c.tc : Thread nD τ).loc main_arg0))
      ∧ r.2.mem ((c.tc : Thread nD τ).loc main_v3) = outBins (m ((c.tc : Thread nD τ).loc main_arg0))
      ∧ r.2.mem ((c.tc : Thread nD τ).loc main_arg0) = m ((c.tc : Thread nD τ).loc main_arg0) :=
  (θ_run defs _ _).mono (fun _ h c => ⟨eq_outEnc _ _ (h c).1, eq_outBins _ _ (h c).2.1, (h c).2.2⟩) (kernel_run m ρ)

end Kernel

section Reference

open Cert.ReferenceIdeal

/-- The reference's run: the same. -/
theorem reference_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = outEnc (m ((c.tc : Thread nD τ).loc main_arg0))
      ∧ r.2.mem ((c.tc : Thread nD τ).loc main_v45) = outBins (m ((c.tc : Thread nD τ).loc main_arg0))
      ∧ r.2.mem ((c.tc : Thread nD τ).loc main_arg0) = m ((c.tc : Thread nD τ).loc main_arg0) :=
  (θ_run defs _ _).mono (fun _ h c => ⟨(h c).1.trans (eq_outEnc _ _ fun i => refEnc_at _ i),
    (h c).2.1.trans (eq_outBins _ _ fun i j => res_at m c i j), (h c).2.2⟩) (Cert.ReferenceIdeal.Value.run (F := Ideal) m ρ)

end Reference

end TwoHot
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end, leaves its argument as it was and its semaphores at zero. -/
theorem reference_frame : @Cert.quiescent_ReferenceIdeal Cert.ReferenceIdeal.Gen.facts := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From memories that agree on the argument, the idealized kernel and the reference end with equal results. -/
theorem equal_results :
    @Cert.algebraic_KernelIdeal_ReferenceIdeal Cert.KernelIdeal.Gen.facts Cert.ReferenceIdeal.Gen.facts := fun m g m' g' _ hagree =>
  ⟨fun c => TwoHot.outEnc (m ((c.tc : Thread Cert.KernelIdeal.nD Cert.KernelIdeal.τ).loc Cert.KernelIdeal.main_arg0)),
    fun c => TwoHot.outBins (m ((c.tc : Thread Cert.KernelIdeal.nD Cert.KernelIdeal.τ).loc Cert.KernelIdeal.main_arg0)),
    TwoHot.kernel_eq m g,
    (θ_run Cert.ReferenceIdeal.defs _ _).mono
      (fun _ h c => ⟨(h c).1.trans (congrArg TwoHot.outEnc (hagree c)), (h c).2.1.trans (congrArg TwoHot.outBins (hagree c)), (h c).2.2⟩)
      (TwoHot.reference_eq m' g')⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame,
    IdealRules.sign_bit.statement Cert.KernelIdeal.S2048x1 .f32, equal_results⟩

end Cert.Proof

end
